-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x1024 : Shape := ⟨3, ![4, 4096, 1024]⟩
abbrev S8192x1024 : Shape := ⟨2, ![8192, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S4x4096x1024 : Shape := ⟨3, ![4, 4096, 1024]⟩
abbrev S8192x1024 : Shape := ⟨2, ![8192, 1024]⟩
abbrev S4096 : Shape := ⟨1, ![4096]⟩
abbrev S1x4096 : Shape := ⟨2, ![1, 4096]⟩
abbrev S4x4096 : Shape := ⟨2, ![4, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1024, .f32⟩
  | .hbm, ⟨24, _⟩ => ⟨S4x4096x1024, .i1⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Lookup.lean ====
/-
  The mathematics shared by the four programs, free of any of them: the function that kernel and reference compute
  (`withPositions`), and the reference's term for it read at an index. `jnp.take(table, positions, axis=0)` lowers to an iota of
  row numbers, a wrap of the negative ones, a bounds mask, a gather of rows and a select of NaN where the mask is unset; every row
  number here is below 4096, so nothing wraps, the mask is set everywhere, and the gather reads row `s` of the table at position `s`.
-/
module

public import Idealize.ShloMosaic.PureOps
public import Idealize.ShloMosaic.Lib.ValueIdxCore
public import Idealize.ShloMosaic.Lib.ReduceAll
public import Idealize.ShloMosaic.Lib.IdealHost
public import Idealize.ShloMosaic.Lib.Pipeline.Value

@[expose] public section

noncomputable section

namespace Cert.Lookup

open Idealize.ShloMosaic Idealize.ShloMosaic.ValueIdx

/-- The shape of `x` and of the result. -/
abbrev SX : Shape := ⟨3, ![4, 4096, 1024]⟩
/-- The shape of the embedding table. -/
abbrev ST : Shape := ⟨2, ![8192, 1024]⟩
/-- The shape of one sequence's row numbers. -/
abbrev SP : Shape := ⟨1, ![4096]⟩
/-- The shape of the batch's row numbers. -/
abbrev SB : Shape := ⟨2, ![4, 4096]⟩
/-- The same with a leading axis of extent one, before the batch axis is filled. -/
abbrev SB1 : Shape := ⟨2, ![1, 4096]⟩
/-- The row numbers as the gather takes them. -/
abbrev SI : Shape := ⟨3, ![4, 4096, 1]⟩
/-- The scalar shape. -/
abbrev S0 : Shape := ⟨0, ![]⟩

/-- The table's index that position `i` of the result adds: the row of `i`'s place in its sequence, at `i`'s column. -/
abbrev rowOf (i : SX.Idx) : ST.Idx := ix2 ⟨(i 1).val, by have h : (i 1).val < 4096 := (i 1).isLt; omega⟩ (i 2)

/-- THE FUNCTION: element `(b, s, d)` is `x[b, s, d] + table[s, d]`. -/
def withPositions {F : FTy → Type} [FloatOps F] (x : FVec F SX .f32) (table : FVec F ST .f32) : FVec F SX .f32 :=
  fun i => FloatOps.addf (x i) (table (rowOf i))

/-! ## The gather of whole rows -/

section Gather
variable {α : Type}

/-- The dimension numbers of a gather of rows of a table at a batch of row numbers. -/
abbrev rowDims (wf : GatherDims.WF ST SI SX [2] [0] [] [0] [] 2 ![1, 1024]) : GatherDims ST SI SX where
  offsetDims := [2]
  collapsedSliceDims := [0]
  operandBatchingDims := []
  startIndicesBatchingDims := []
  startIndexMap := [0]
  indexVectorDim := 2
  sliceSizes := ![1, 1024]
  wf := wf

/-- Where the row numbers for result index `i` are read. -/
abbrev rowNo (i : SX.Idx) : SI.Idx := ix3 (i 0) (i 1) (0 : Fin 1)

/-- Where the row number of result index `i` is its place in the sequence, the gather reads that row at `i`'s column. -/
theorem gather_apply (wf : GatherDims.WF ST SI SX [2] [0] [] [0] [] 2 ![1, 1024]) (table : ST.Idx → α) (idx : IVec SI 32)
    (i : SX.Idx) (h : idx (rowNo i) = BitVec.ofNat 32 (i 1).val) :
    Host.gather (rowDims wf) table idx i = table (rowOf i) := by
  have hlt : (i 1).val < 4096 := (i 1).isLt
  unfold Host.gather
  refine congrArg table (funext fun a => Fin.ext ?_)
  show (rowDims wf).start i idx a + (rowDims wf).batchCoord i a + (rowDims wf).offCoord i a = _
  rw [GatherDims.batchCoord_eq_zero _ _ _ List.not_mem_nil, Nat.add_zero]
  match a with
  | ⟨0, _⟩ =>
    have hk : (0 : Fin 2) ∉ (rowDims wf).sKept := fun hm => ((GatherDims.mem_sKept _ _).mp hm).1 (List.mem_singleton.mpr rfl)
    have hs : (0 : Fin 2) ∈ (rowDims wf).startIndexMap := List.mem_singleton.mpr rfl
    have he : (rowDims wf).siIdx i ⟨List.idxOf (0 : Fin 2) (rowDims wf).startIndexMap, List.idxOf_lt_length_iff.2 hs⟩ = rowNo i := by
      funext b
      refine Fin.ext ?_
      match b with
      | ⟨0, _⟩ => rfl
      | ⟨1, _⟩ => rfl
      | ⟨2, _⟩ => rfl
    show (rowDims wf).start i idx (0 : Fin 2) + (rowDims wf).offCoord i (0 : Fin 2) = (i 1).val
    rw [GatherDims.offCoord_eq_zero _ _ _ hk, Nat.add_zero]
    unfold GatherDims.start
    rw [dif_pos hs, he, h, BitVec.toInt_eq_toNat_of_lt (by rw [BitVec.toNat_ofNat]; omega), BitVec.toNat_ofNat, Int.toNat_natCast]
    show min ((i 1).val % 2 ^ 32) (8192 - 1) = (i 1).val
    omega
  | ⟨1, _⟩ =>
    have hs : (1 : Fin 2) ∉ (rowDims wf).startIndexMap := fun hm => absurd (List.mem_singleton.mp hm) (by decide)
    show (rowDims wf).start i idx (1 : Fin 2) + (rowDims wf).offCoord i (1 : Fin 2) = (i 2).val
    unfold GatherDims.start
    rw [dif_neg hs, Nat.zero_add]
    rfl

end Gather

/-! ## The row numbers -/

/-- A row number is not negative, -/
theorem not_neg {n : Nat} (h : n < 4096) : IntOp.cmpi .slt (BitVec.ofNat 32 n) 0#32 = 0#1 := by
  have : (BitVec.ofNat 32 n).slt 0#32 = false := by
    rw [BitVec.slt_eq_decide, BitVec.toInt_eq_toNat_of_lt (by rw [BitVec.toNat_ofNat]; omega)]
    simp
    omega
  simp [IntOp.cmpi, this]

/-- it is at least zero, -/
theorem zero_le {n : Nat} (h : n < 4096) : IntOp.cmpi .sge (BitVec.ofNat 32 n) 0#32 = 1#1 := by
  have : (0#32).sle (BitVec.ofNat 32 n) = true := by
    rw [BitVec.sle_eq_decide, BitVec.toInt_eq_toNat_of_lt (x := BitVec.ofNat 32 n) (by rw [BitVec.toNat_ofNat]; omega)]
    simp
    omega
  simp [IntOp.cmpi, this]

/-- and it names a row of the table. -/
theorem le_last {n : Nat} (h : n < 4096) : IntOp.cmpi .sle (BitVec.ofNat 32 n) 8191#32 = 1#1 := by
  have : (BitVec.ofNat 32 n).sle 8191#32 = true := by
    rw [BitVec.sle_eq_decide, BitVec.toInt_eq_toNat_of_lt (x := BitVec.ofNat 32 n) (by rw [BitVec.toNat_ofNat]; omega),
      BitVec.toNat_ofNat]
    simp
    omega
  simp [IntOp.cmpi, this]

section Rows
variable (h1 : SP.BroadcastsInDim SB1 (![1] : Fin 1 → Fin SB1.rank))
  (h2 : SB1.BroadcastsInDim SB (![0, 1] : Fin 2 → Fin SB.rank))
  (h3 : S0.BroadcastsInDim SB (![] : Fin 0 → Fin SB.rank))
  (h4 : SB.BroadcastsInDim SI (![0, 1] : Fin 2 → Fin SI.rank))

/-- `jnp.broadcast_to(jnp.arange(4096)[None, :], (4, 4096))`, as it lowers. -/
abbrev positions : IVec SB 32 := broadcastInDim SB ![0, 1] h2 (broadcastInDim SB1 ![1] h1 (iotaInDim SP 32 0))

/-- The positions after the wrap of negative ones, as the gather takes them. -/
abbrev rows : IVec SI 32 :=
  broadcastInDim SI ![0, 1] h4
    (select (cmpi .slt (positions h1 h2) (broadcastInDim SB ![] h3 (constantI S0 32 0#32)))
      (addi (positions h1 h2) (broadcastInDim SB ![] h3 (constantI S0 32 8192#32))) (positions h1 h2))

/-- Position `(b, s)` is `s`. -/
theorem positions_apply (j : SB.Idx) : positions h1 h2 j = BitVec.ofNat 32 (j 1).val := by
  refine (broadcastInDim_apply ![0, 1] h2 _ j (ix2 (0 : Fin 1) (j 1)) fun a => ?_).trans ?_
  · match a with
    | ⟨0, _⟩ => rfl
    | ⟨1, _⟩ => rfl
  refine (broadcastInDim_apply ![1] h1 _ _ (ix1 (j 1)) fun a => ?_).trans rfl
  match a with
  | ⟨0, _⟩ => rfl

/-- So is the row number at `(b, s)`: no position is negative, and none wraps. -/
theorem rows_apply (k : SI.Idx) : rows h1 h2 h3 h4 k = BitVec.ofNat 32 (k 1).val := by
  have hlt : (k 1).val < 4096 := (k 1).isLt
  refine (broadcastInDim_apply ![0, 1] h4 _ k (@ix2 4 4096 (k 0) (k 1)) fun a => ?_).trans ?_
  · match a with
    | ⟨0, _⟩ => rfl
    | ⟨1, _⟩ => rfl
  have hz : broadcastInDim SB ![] h3 (constantI S0 32 0#32) (@ix2 4 4096 (k 0) (k 1)) = 0#32 := broadcastInDim_scalar_apply _ _ _
  have hp : positions h1 h2 (@ix2 4 4096 (k 0) (k 1)) = BitVec.ofNat 32 (k 1).val := positions_apply h1 h2 _
  show Scalar.select (IntOp.cmpi .slt (positions h1 h2 (@ix2 4 4096 (k 0) (k 1)))
    (broadcastInDim SB ![] h3 (constantI S0 32 0#32) (@ix2 4 4096 (k 0) (k 1)))) _ (positions h1 h2 (@ix2 4 4096 (k 0) (k 1))) = _
  rw [hz, hp, not_neg hlt, select_zero]

/-- The bounds mask before its reduction over the unit axis: `0 ≤ row` and `row ≤ 8191`. -/
abbrev inBounds (h5 : S0.BroadcastsInDim SI (![] : Fin 0 → Fin SI.rank))
    (h6 : (⟨1, ![1]⟩ : Shape).BroadcastsInDim ⟨3, ![1, 1, 1]⟩ (![2] : Fin 1 → Fin 3))
    (h7 : (⟨3, ![1, 1, 1]⟩ : Shape).BroadcastsInDim SI (![0, 1, 2] : Fin 3 → Fin SI.rank)) : IVec SI 1 :=
  andi (cmpi .sge (rows h1 h2 h3 h4) (broadcastInDim SI ![] h5 (constantI S0 32 0#32)))
    (cmpi .sle (rows h1 h2 h3 h4)
      (broadcastInDim SI ![0, 1, 2] h7 (broadcastInDim ⟨3, ![1, 1, 1]⟩ ![2] h6 (constantI ⟨1, ![1]⟩ 32 8191#32))))

/-- It is set everywhere: every row number names a row of the table. -/
theorem inBounds_apply (h5 : S0.BroadcastsInDim SI (![] : Fin 0 → Fin SI.rank))
    (h6 : (⟨1, ![1]⟩ : Shape).BroadcastsInDim ⟨3, ![1, 1, 1]⟩ (![2] : Fin 1 → Fin 3))
    (h7 : (⟨3, ![1, 1, 1]⟩ : Shape).BroadcastsInDim SI (![0, 1, 2] : Fin 3 → Fin SI.rank)) (k : SI.Idx) :
    inBounds h1 h2 h3 h4 h5 h6 h7 k = 1#1 := by
  have hlt : (k 1).val < 4096 := (k 1).isLt
  have hz : broadcastInDim SI ![] h5 (constantI S0 32 0#32) k = 0#32 := broadcastInDim_scalar_apply _ _ _
  have hl : broadcastInDim SI ![0, 1, 2] h7 (broadcastInDim ⟨3, ![1, 1, 1]⟩ ![2] h6 (constantI ⟨1, ![1]⟩ 32 8191#32)) k = 8191#32 := rfl
  show IntOp.andi (IntOp.cmpi .sge (rows h1 h2 h3 h4 k) (broadcastInDim SI ![] h5 (constantI S0 32 0#32) k))
    (IntOp.cmpi .sle (rows h1 h2 h3 h4 k)
      (broadcastInDim SI ![0, 1, 2] h7 (broadcastInDim ⟨3, ![1, 1, 1]⟩ ![2] h6 (constantI ⟨1, ![1]⟩ 32 8191#32)) k)) = 1#1
  rw [hz, hl, rows_apply, zero_le hlt, le_last hlt]
  rfl

/-! ## The whole term -/

/-- THE REFERENCE'S TERM — the gathered rows where the bounds mask is set, NaN elsewhere, added to `x` — is `withPositions`. -/
theorem term_eq {F : FTy → Type} [FloatOps F] (h5 : S0.BroadcastsInDim SI (![] : Fin 0 → Fin SI.rank))
    (h6 : (⟨1, ![1]⟩ : Shape).BroadcastsInDim ⟨3, ![1, 1, 1]⟩ (![2] : Fin 1 → Fin 3))
    (h7 : (⟨3, ![1, 1, 1]⟩ : Shape).BroadcastsInDim SI (![0, 1, 2] : Fin 3 → Fin SI.rank))
    (hr : SI.ReducesTo [2] SB) (hu : 0 < S0.numel)
    (h8 : SB.BroadcastsInDim SX (![0, 1] : Fin 2 → Fin SX.rank)) (wf : GatherDims.WF ST SI SX [2] [0] [] [0] [] 2 ![1, 1024])
    (x : FVec F SX .f32) (table : FVec F ST .f32) (other : FVec F SX .f32) :
    addf x (select (broadcastInDim SX ![0, 1] h8
        (Host.reduce IntOp.andi (inBounds h1 h2 h3 h4 h5 h6 h7) (constantI S0 1 1#1) hr hu))
      (Host.gather (rowDims wf) table (rows h1 h2 h3 h4)) other) = withPositions x table := by
  funext i
  have hset : Host.reduce IntOp.andi (inBounds h1 h2 h3 h4 h5 h6 h7) (constantI S0 1 1#1) hr hu = fun _ => 1#1 :=
    funext fun j => Host.reduce_andi_one (inBounds h1 h2 h3 h4 h5 h6 h7) (constantI S0 1 1#1) hr hu j rfl
      (inBounds_apply h1 h2 h3 h4 h5 h6 h7)
  have hg := gather_apply wf table (rows h1 h2 h3 h4) i (rows_apply h1 h2 h3 h4 (rowNo i))
  show FloatOps.addf (x i) (Scalar.select (broadcastInDim SX ![0, 1] h8
      (Host.reduce IntOp.andi (inBounds h1 h2 h3 h4 h5 h6 h7) (constantI S0 1 1#1) hr hu) i)
    (Host.gather (rowDims wf) table (rows h1 h2 h3 h4) i) (other i)) = FloatOps.addf (x i) (table (rowOf i))
  rw [hset, hg]
  rfl

end Rows

end Cert.Lookup

end
-- ==== Proof.KernelIdealValue.lean ====
/-
  What the idealized kernel leaves in its result array, for any float values: `Lookup.withPositions` of the two argument arrays.
  Grid point `(b, s)` adds rows `512 s … 512 s + 511` of the table to the same rows of sequence `b` and writes them back there; the
  32 blocks fill the array.
-/
module

public import proofs.«01_k».proof.Proof.Gen.KernelIdeal.Value
public import proofs.«01_k».proof.Proof.Lookup

@[expose] public section

noncomputable section

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The sum of device `c`'s argument `x` and the table's first rows: what the result array is shown to hold. -/
abbrev goal (c : Dev nD) : Buf (Elt F) ((c : Thread nD τ).loc main_v0) :=
  Lookup.withPositions (m ((c : Thread nD τ).loc main_arg0)) (m ((c : Thread nD τ).loc main_arg1))

/-- At every grid point `x`'s block is the result's, and the table's block has the result's row block and its columns. -/
theorem index_eq : ∀ t : Fin cfg0.N, win0_0.index t = win0_2.index t ∧ win0_1.index t 0 = win0_2.index t 1
    ∧ win0_1.index t 1 = 0 ∧ win0_2.index t 2 = 0 :=
  (by decide +kernel : ∀ t : Fin grid0.N, win0_0.index t = win0_2.index t ∧ win0_1.index t 0 = win0_2.index t 1
    ∧ win0_1.index t 1 = 0 ∧ win0_2.index t 2 = 0)

/-- Grid point `t` holds sequence `t / 8` and the `t % 8`-th run of 512 rows. -/
theorem index_val : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back is block `t` of the sum. -/
theorem flushed_eq (c : Dev nD) (t : Fin cfg0.N) :
    (dats m 0 c).flushed 2 t = (win0_2.blk t).view.read (Elt F) (goal m c) := by
  rw [Value.flushed2]
  funext y
  obtain ⟨e0, e1, e2, e3⟩ := index_eq t
  have e00 := congrFun e0 0
  have e01 := congrFun e0 1
  have e02 := congrFun e0 2
  show out0_2 (iblk m c 0 t) (iblk m c 1 t) y = _
  unfold out0_2
  rw [Value.canon2_eq, View.ld_unit_zero hz3, View.ld_unit_zero hz2]
  have hy0 : (y 0).val < 1 := (y 0).isLt
  show FloatOps.addf (m ((c : Thread nD τ).loc main_arg0) ((win0_0.rect t).emb (Value.ix2_0 y)))
      (m ((c : Thread nD τ).loc main_arg1) ((win0_1.rect t).emb (Value.ix2_1 y)))
    = FloatOps.addf (m ((c : Thread nD τ).loc main_arg0) ((win0_2.rect t).emb y))
      (m ((c : Thread nD τ).loc main_arg1) (Lookup.rowOf ((win0_2.rect t).emb y)))
  have ex : (win0_0.rect t).emb (Value.ix2_0 y) = (win0_2.rect t).emb y := by
    funext a
    refine Fin.ext ?_
    match a with
    | ⟨0, _⟩ => show win0_0.index t 0 * 1 + 1 * 0 = win0_2.index t 0 * 1 + 1 * (y 0).val; omega
    | ⟨1, _⟩ => show win0_0.index t 1 * 512 + 1 * (y 1).val = win0_2.index t 1 * 512 + 1 * (y 1).val; omega
    | ⟨2, _⟩ => show win0_0.index t 2 * 1024 + 1 * (y 2).val = win0_2.index t 2 * 1024 + 1 * (y 2).val; omega
  have et : (win0_1.rect t).emb (Value.ix2_1 y) = Lookup.rowOf ((win0_2.rect t).emb y) := by
    funext a
    refine Fin.ext ?_
    match a with
    | ⟨0, _⟩ => show win0_1.index t 0 * 512 + 1 * (y 1).val = win0_2.index t 1 * 512 + 1 * (y 1).val; omega
    | ⟨1, _⟩ => show win0_1.index t 1 * 1024 + 1 * (y 2).val = win0_2.index t 2 * 1024 + 1 * (y 2).val; omega
  rw [ex, et]

/-- An index is in point `t`'s block when its sequence and its run of 512 rows are the point's. -/
theorem mem_block (t : Fin cfg0.N) (i : S4x4096x1024.Idx) : i ∈ ((cfg0.win 2).blk t).view.set
    ↔ (i 0).val = t.val / 8 ∧ t.val % 8 * 512 ≤ (i 1).val ∧ (i 1).val < t.val % 8 * 512 + 512 := by
  show i ∈ ((View.whole main_v0).slice (win0_2.rect t)).set ↔ _
  rw [View.set_slice_whole, Rect.mem_set_unit]
  obtain ⟨e0, e1, e2⟩ := index_val t
  have h2 : (i 2).val < 1024 := (i 2).isLt
  refine ⟨fun h => ?_, fun h a => ?_⟩
  · have ha : win0_2.index t 0 * 1 ≤ (i 0).val ∧ (i 0).val < win0_2.index t 0 * 1 + 1 := h 0
    have hb : win0_2.index t 1 * 512 ≤ (i 1).val ∧ (i 1).val < win0_2.index t 1 * 512 + 512 := h 1
    rw [e0] at ha
    rw [e1] at hb
    omega
  · match a with
    | ⟨0, _⟩ => show win0_2.index t 0 * 1 ≤ (i 0).val ∧ (i 0).val < win0_2.index t 0 * 1 + 1; rw [e0]; omega
    | ⟨1, _⟩ => show win0_2.index t 1 * 512 ≤ (i 1).val ∧ (i 1).val < win0_2.index t 1 * 512 + 512; rw [e1]; omega
    | ⟨2, _⟩ => show win0_2.index t 2 * 1024 ≤ (i 2).val ∧ (i 2).val < win0_2.index t 2 * 1024 + 1024; rw [e2]; omega

/-- The blocks fill the array: index `(b, s, d)` is in the block of point `8 b + s / 512`. -/
theorem cover (i : S4x4096x1024.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1024 := (i 2).isLt
  have hN : cfg0.N = 32 := N_0
  have ht : 8 * (i 0).val + (i 1).val / 512 < cfg0.N := by omega
  refine ⟨⟨_, ht⟩, flush0_2 _, ?_⟩
  rw [mem_block]
  dsimp only
  omega

/-- So the result array ends holding the sum, -/
theorem final (c : Dev nD) : (dats m 0 c).arrAt 2 cfg0.N = goal m c :=
  (dats m 0 c).arrAt_eq_of_cover 2 (goal m c) (fun t _ => flushed_eq m c t) cover

/-- and the run, read: the result array at the sum, the arguments unchanged. -/
theorem run : θ_run defs (onTc (τ := τ) (main (F := F))) ⟨m, fun _ => 0, ρ⟩ fun r => ∀ c : Dev nD,
      r.2.mem ((c : Thread nD τ).loc main_v0) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Whole

end
-- ==== Proof.ReferenceValue.lean ====
/-
  What the reference leaves in its result, for any float values: `Lookup.withPositions` of its arguments. Its run gives the result as
  the composed term of its host operations; `Lookup.term_eq` reads that term.
-/
module

public import proofs.«01_k».proof.Proof.Gen.Reference.Run
public import proofs.«01_k».proof.Proof.Lookup

@[expose] public section

noncomputable section

namespace Cert.Reference.Whole

open Cert.Reference Cert.Reference.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The run, read: the result at `x` plus the table's row of each position, the arguments unchanged. -/
theorem run : θ_run defs (onTc (τ := τ) (main (F := F))) ⟨m, fun _ => 0, ρ⟩ fun r => ∀ c : Dev nD,
      r.2.mem ((c.tc : Thread nD τ).loc main_v4)
        = Lookup.withPositions (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Lookup.term_eq _ _ _ _ _ _ _ _ _ _ _ _ _ _), (h c).2⟩)
    (Value.run m ρ)

end Cert.Reference.Whole

end
-- ==== Proof.ReferenceIdealValue.lean ====
/-
  What the idealized reference leaves in its result, for any float values: `Lookup.withPositions` of its arguments. Its run gives the result as
  the composed term of its host operations; `Lookup.term_eq` reads that term.
-/
module

public import proofs.«01_k».proof.Proof.Gen.ReferenceIdeal.Run
public import proofs.«01_k».proof.Proof.Lookup

@[expose] public section

noncomputable section

namespace Cert.ReferenceIdeal.Whole

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The run, read: the result at `x` plus the table's row of each position, the arguments unchanged. -/
theorem run : θ_run defs (onTc (τ := τ) (main (F := F))) ⟨m, fun _ => 0, ρ⟩ fun r => ∀ c : Dev nD,
      r.2.mem ((c.tc : Thread nD τ).loc main_v4)
        = Lookup.withPositions (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Lookup.term_eq _ _ _ _ _ _ _ _ _ _ _ _ _ _), (h c).2⟩)
    (Value.run m ρ)

end Cert.ReferenceIdeal.Whole

end
-- ==== Proof.lean ====
/-
  The certificate's claims, assembled. Kernel and reference both end with their result at `Lookup.withPositions` of the arguments
  (KernelValue, KernelIdealValue, ReferenceValue, ReferenceIdealValue), for any float values: read over the extended reals that is
  the algebraic claim, read over words the bit-exact one.
-/
module

public import proofs.«01_k».proof.Defs
public import proofs.«01_k».proof.Proof.KernelValue
public import proofs.«01_k».proof.Proof.KernelIdealValue
public import proofs.«01_k».proof.Proof.ReferenceValue
public import proofs.«01_k».proof.Proof.ReferenceIdealValue
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import Idealize.ShloMosaic.Lib.Quiescent

@[expose] public section

noncomputable section

namespace Cert.Proof

open Idealize.ShloMosaic Idealize.SL.Sem

/-- The reference runs, leaves its arguments unchanged and ends quiescent: it declares no semaphore. -/
theorem frame_Reference : Cert.quiescent_Reference := fun m ρ _ =>
  (θ_run Cert.Reference.defs _ _).mono (fun r h => ⟨fun c => (h c).2, sem_eq_zero_of_no_sems (by decide) r.2⟩)
    (Cert.Reference.Whole.run (F := Bits) m ρ)

/-- The idealized reference runs, leaves its arguments unchanged and ends quiescent: it declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Whole.run (F := Ideal) m ρ)

/-- Over the extended reals kernel and reference compute the same function of their arguments. -/
theorem algebraic : Cert.algebraic_KernelIdeal_ReferenceIdeal := fun m ρ m' ρ' _ hagree =>
  ⟨fun c => Cert.KernelIdeal.Whole.goal m c, Cert.KernelIdeal.Whole.run (F := Ideal) m ρ,
    (θ_run Cert.ReferenceIdeal.defs _ _).mono
      (fun _ h c => ⟨(h c).1.trans (congrArg₂ Cert.Lookup.withPositions (hagree c).1 (hagree c).2), (h c).2⟩)
      (Cert.ReferenceIdeal.Whole.run (F := Ideal) m' ρ')⟩

/-- Kernel and reference end with the same words: both add the same two words at every index, by one addition. -/
theorem bitexact : Cert.bitexact_Kernel_Reference := fun m ρ m' ρ' _ hagree =>
  ⟨fun c => Cert.Kernel.Whole.goal m c, Cert.Kernel.Whole.run (F := Bits) m ρ,
    (θ_run Cert.Reference.defs _ _).mono
      (fun _ h c => ⟨(h c).1.trans (congrArg₂ Cert.Lookup.withPositions (hagree c).1 (hagree c).2), (h c).2⟩)
      (Cert.Reference.Whole.run (F := Bits) m' ρ')⟩

/-- Everything the certificate claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, frame_Reference, frame_ReferenceIdeal,
    trivial, algebraic, bitexact⟩

end Cert.Proof

end
